-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x8192 : Shape := ⟨3, ![16, 1, 8192]⟩
abbrev S16x1x16x64 : Shape := ⟨4, ![16, 1, 16, 64]⟩
abbrev S16x65536x512 : Shape := ⟨3, ![16, 65536, 512]⟩
abbrev S16x65536 : Shape := ⟨2, ![16, 65536]⟩
abbrev S16x65536x64 : Shape := ⟨3, ![16, 65536, 64]⟩
abbrev S16x16x512 : Shape := ⟨3, ![16, 16, 512]⟩
abbrev S16x16x64 : Shape := ⟨3, ![16, 16, 64]⟩
abbrev S16x1x65536 : Shape := ⟨3, ![16, 1, 65536]⟩
abbrev S1x16x512 : Shape := ⟨3, ![1, 16, 512]⟩
abbrev S1x16x64 : Shape := ⟨3, ![1, 16, 64]⟩
abbrev S1x8192x512 : Shape := ⟨3, ![1, 8192, 512]⟩
abbrev S1x1x8192 : Shape := ⟨3, ![1, 1, 8192]⟩
abbrev S1x8192x64 : Shape := ⟨3, ![1, 8192, 64]⟩
abbrev S16x1 : Shape := ⟨2, ![16, 1]⟩
abbrev S16x512 : Shape := ⟨2, ![16, 512]⟩
abbrev S16x64 : Shape := ⟨2, ![16, 64]⟩
abbrev S1x1024x512 : Shape := ⟨3, ![1, 1024, 512]⟩
abbrev S1024x512 : Shape := ⟨2, ![1024, 512]⟩
abbrev S1x1x1024 : Shape := ⟨3, ![1, 1, 1024]⟩
abbrev S1x1024 : Shape := ⟨2, ![1, 1024]⟩
abbrev S16x1024 : Shape := ⟨2, ![16, 1024]⟩
abbrev S1x1024x64 : Shape := ⟨3, ![1, 1024, 64]⟩
abbrev S1024x64 : Shape := ⟨2, ![1024, 64]⟩
abbrev S16 : Shape := ⟨1, ![16]⟩

abbrev nBuf : Space → Nat
  | .hbm => 9
  | .vmem => 15
  | .smem => 0
  | _ => 0

abbrev bufTy : (tb : Table) → Fin (tcTables nBuf tb) → BufTy
  | .hbm, ⟨0, _⟩ => ⟨S16x1x8192, .bf16⟩
  | .hbm, ⟨1, _⟩ => ⟨S16x1x16x64, .bf16⟩
  | .hbm, ⟨2, _⟩ => ⟨S16x65536x512, .fp8e4m3⟩
  | .hbm, ⟨3, _⟩ => ⟨S16x65536, .f32⟩
  | .hbm, ⟨4, _⟩ => ⟨S16x65536x64, .bf16⟩
  | .hbm, ⟨5, _⟩ => ⟨S16x16x512, .bf16⟩
  | .hbm, ⟨6, _⟩ => ⟨S16x16x64, .bf16⟩
  | .hbm, ⟨7, _⟩ => ⟨S16x1x65536, .f32⟩
  | .hbm, ⟨8, _⟩ => ⟨S16x16x512, .bf16⟩
  | .local _ .vmem, ⟨0, _⟩ => ⟨S1x16x512, .bf16⟩
  | .local _ .vmem, ⟨1, _⟩ => ⟨S1x16x512, .bf16⟩
  | .local _ .vmem, ⟨2, _⟩ => ⟨S1x16x64, .bf16⟩
  | .local _ .vmem, ⟨3, _⟩ => ⟨S1x16x64, .bf16⟩
  | .local _ .vmem, ⟨4, _⟩ => ⟨S1x8192x512, .fp8e4m3⟩
  | .local _ .vmem, ⟨5, _⟩ => ⟨S1x8192x512, .fp8e4m3⟩
  | .local _ .vmem, ⟨6, _⟩ => ⟨S1x1x8192, .f32⟩
  | .local _ .vmem, ⟨7, _⟩ => ⟨S1x1x8192, .f32⟩
  | .local _ .vmem, ⟨8, _⟩ => ⟨S1x8192x64, .bf16⟩
  | .local _ .vmem, ⟨9, _⟩ => ⟨S1x8192x64, .bf16⟩
  | .local _ .vmem, ⟨10, _⟩ => ⟨S1x16x512, .bf16⟩
  | .local _ .vmem, ⟨11, _⟩ => ⟨S1x16x512, .bf16⟩
  | .local _ .vmem, ⟨12, _⟩ => ⟨S16x1, .f32⟩
  | .local _ .vmem, ⟨13, _⟩ => ⟨S16x1, .f32⟩
  | .local _ .vmem, ⟨14, _⟩ => ⟨S16x512, .f32⟩
  | _, _ => ⟨S16x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v275 : BitVec 1 := Scalar.cmpi .eq arg1 c7_i32
  let v276 : BitVec 32 := Scalar.extui v275
  let c0_i32_130 : BitVec 32 := 0#32
  let v277 : BitVec 1 := Scalar.cmpi .ne v276 c0_i32_130
  v277

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S16x1x8192 : Shape := ⟨3, ![16, 1, 8192]⟩
abbrev S16x1x16x64 : Shape := ⟨4, ![16, 1, 16, 64]⟩
abbrev S16x65536x512 : Shape := ⟨3, ![16, 65536, 512]⟩
abbrev S16x65536 : Shape := ⟨2, ![16, 65536]⟩
abbrev S16x65536x64 : Shape := ⟨3, ![16, 65536, 64]⟩
abbrev S16x16x512 : Shape := ⟨3, ![16, 16, 512]⟩
abbrev S16x16x64 : Shape := ⟨3, ![16, 16, 64]⟩
abbrev S16x1x65536 : Shape := ⟨3, ![16, 1, 65536]⟩
abbrev S16x16x65536 : Shape := ⟨3, ![16, 16, 65536]⟩
abbrev S16x16 : Shape := ⟨2, ![16, 16]⟩
abbrev S16x16x1 : Shape := ⟨3, ![16, 16, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x1x8192, .bf16⟩
  | .hbm, ⟨1, _⟩ => ⟨S16x1x16x64, .bf16⟩
  | .hbm, ⟨2, _⟩ => ⟨S16x65536x512, .fp8e4m3⟩
  | .hbm, ⟨3, _⟩ => ⟨S16x65536, .f32⟩
  | .hbm, ⟨4, _⟩ => ⟨S16x65536x64, .bf16⟩
  | .hbm, ⟨5, _⟩ => ⟨S16x16x512, .bf16⟩
  | .hbm, ⟨6, _⟩ => ⟨S16x16x64, .bf16⟩
  | .hbm, ⟨7, _⟩ => ⟨S16x16x512, .bf16⟩
  | .local _ .vmem, ⟨0, _⟩ => ⟨S16x16x512, .bf16⟩
  | .local _ .vmem, ⟨1, _⟩ => ⟨S16x16x64, .bf16⟩
  | .local _ .vmem, ⟨2, _⟩ => ⟨S16x65536x512, .fp8e4m3⟩
  | .local _ .vmem, ⟨3, _⟩ => ⟨S16x65536, .f32⟩
  | .local _ .vmem, ⟨4, _⟩ => ⟨S16x65536x64, .bf16⟩
  | .local _ .vmem, ⟨5, _⟩ => ⟨S16x16x512, .bf16⟩
  | _, _ => ⟨S16x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x16x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x65536x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x65536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x65536x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x16x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Softmax.lean ====
module

public import Idealize.ShloMosaic.Lib.Pointwise

/-!
The online softmax over the extended reals, with no hypothesis on the scores.

Tokens are numbered by natural numbers, `s t` is the score of token `t`. After the first `n` tokens
the running maximum is `m = M s n`, the running denominator is `L s m n` and the running numerator,
for the scales `c` and the values `v`, is `A s c v m n`. One block of `b` more tokens is one update of
the three.
-/

@[expose] public section

noncomputable section

open Idealize.ShloMosaic Finset

namespace Cert.Softmax

/-- The greatest of the first `n` scores (`⊥` for none). -/
def M (s : ℕ → EReal) (n : ℕ) : EReal := (range n).sup s

/-- The sum of the exponentials of the first `n` scores less `m`. -/
def L (s : ℕ → EReal) (m : EReal) (n : ℕ) : EReal := ∑ t ∈ range n, Ideal.exp (s t - m)

/-- The same sum, each term weighted: first by the token's scale `c`, then by its value `v`. -/
def A (s c v : ℕ → EReal) (m : EReal) (n : ℕ) : EReal := ∑ t ∈ range n, Ideal.exp (s t - m) * c t * v t

/-- `exp` of a difference `m - m'` with `m ≤ m'` is a nonnegative real number. -/
theorem exp_sub_real {m m' : EReal} (h : m ≤ m') : ∃ r : ℝ, 0 ≤ r ∧ Ideal.exp (m - m') = (r : EReal) := by
  induction m with
  | bot => exact ⟨0, le_rfl, by rw [EReal.bot_sub]; rfl⟩
  | top => rw [top_le_iff.1 h]; exact ⟨0, le_rfl, by simp⟩
  | coe a =>
    induction m' with
    | bot => exact absurd h (by simp)
    | top => exact ⟨0, le_rfl, by simp⟩
    | coe b => exact ⟨Real.exp (a - b), (Real.exp_pos _).le, by rw [← EReal.coe_sub, Ideal.exp_coe]⟩

/-- Rescaling an exponential from the maximum `m` to the maximum `m'`. -/
theorem exp_rescale {s m m' : EReal} (h : s ≤ m) (h' : m ≤ m') :
    Ideal.exp (s - m) * Ideal.exp (m - m') = Ideal.exp (s - m') := by
  induction s with
  | bot => simp [EReal.bot_sub]
  | top => rw [top_le_iff.1 h] at h' ⊢; rw [top_le_iff.1 h']; simp
  | coe a =>
    induction m with
    | bot => exact absurd h (by simp)
    | top => rw [top_le_iff.1 h']; simp
    | coe b =>
      induction m' with
      | bot => exact absurd h' (by simp)
      | top => simp
      | coe c =>
        simp only [← EReal.coe_sub, Ideal.exp_coe, ← EReal.coe_mul, ← Real.exp_add]
        congr 2; ring

/-- A nonnegative real factor goes into a sum, whatever its terms. -/
theorem sum_mul_real {ι : Type} (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [sum_insert ha, sum_insert ha, ← ih,
      EReal.right_distrib_of_nonneg_of_ne_top (by exact_mod_cast hr) (EReal.coe_ne_top r)]

theorem M_zero (s : ℕ → EReal) : M s 0 = ⊥ := by simp [M]

theorem L_zero (s : ℕ → EReal) (m : EReal) : L s m 0 = 0 := by simp [L]

theorem A_zero (s c v : ℕ → EReal) (m : EReal) : A s c v m 0 = 0 := by simp [A]

/-- The maximum over `n + b` tokens. -/
theorem M_add (s : ℕ → EReal) (n b : ℕ) :
    max (M s n) (univ.fold max (⊥ : EReal) fun k : Fin b => s (n + k)) = M s (n + b) := by
  refine le_antisymm (max_le ?_ ?_) ?_
  · exact Finset.sup_mono (range_mono (Nat.le_add_right n b))
  · refine (Finset.fold_max_le _).2 ⟨bot_le, fun k _ => ?_⟩
    exact Finset.le_sup (f := s) (mem_range.2 (Nat.add_lt_add_left k.2 n))
  · refine Finset.sup_le fun t ht => ?_
    rw [mem_range] at ht
    by_cases h : t < n
    · exact le_max_of_le_left (Finset.le_sup (f := s) (mem_range.2 h))
    · refine le_max_of_le_right ((Finset.le_fold_max _).2 (Or.inr ⟨⟨t - n, by omega⟩, mem_univ _, ?_⟩))
      simp only [Nat.add_sub_cancel' (Nat.le_of_not_lt h)]; exact le_rfl

/-- The maximum only grows. -/
theorem M_mono (s : ℕ → EReal) (n b : ℕ) : M s n ≤ M s (n + b) :=
  Finset.sup_mono (range_mono (Nat.le_add_right n b))

/-- The denominator over `n + b` tokens: the one over `n` rescaled, plus the block's. -/
theorem L_add (s : ℕ → EReal) (n b : ℕ) :
    L s (M s n) n * Ideal.exp (M s n - M s (n + b)) + ∑ k : Fin b, Ideal.exp (s (n + k) - M s (n + b))
      = L s (M s (n + b)) (n + b) := by
  obtain ⟨r, hr, e⟩ := exp_sub_real (M_mono s n b)
  rw [L, e, sum_mul_real _ _ hr, L, sum_range_add, ← e, Fin.sum_univ_eq_sum_range (fun k => Ideal.exp (s (n + k) - M s (n + b)))]
  congr 1
  exact sum_congr rfl fun t ht => exp_rescale (Finset.le_sup (f := s) ht) (M_mono s n b)

/-- The numerator over `n + b` tokens: the one over `n` rescaled, plus the block's. -/
theorem A_add (s c v : ℕ → EReal) (n b : ℕ) :
    A s c v (M s n) n * Ideal.exp (M s n - M s (n + b))
        + ∑ k : Fin b, Ideal.exp (s (n + k) - M s (n + b)) * c (n + k) * v (n + k)
      = A s c v (M s (n + b)) (n + b) := by
  obtain ⟨r, hr, e⟩ := exp_sub_real (M_mono s n b)
  rw [A, e, sum_mul_real _ _ hr, A, sum_range_add, ← e,
    Fin.sum_univ_eq_sum_range (fun k => Ideal.exp (s (n + k) - M s (n + b)) * c (n + k) * v (n + k))]
  congr 1
  refine sum_congr rfl fun t ht => ?_
  rw [← exp_rescale (show s t ≤ M s n from Finset.le_sup (f := s) ht) (M_mono s n b)]
  rw [mul_assoc (_ * _) (v t), mul_comm (v t), ← mul_assoc, mul_assoc _ (c t), mul_comm (c t), ← mul_assoc]

end Cert.Softmax
-- ==== Proof.Chunk.lean ====
module

public import proofs.«01_k».proof.Proof.Softmax
public import proofs.«01_k».proof.Proof.Gen.KernelIdeal.Skeleton
public import Idealize.ShloMosaic.Lib.Pipeline.ValueKit

/-!
One chunk of 1024 tokens: what the kernel does to its running maximum, denominator and numerator.

The kernel repeats the same code for each of its eight chunks. `chunk` is that code once, written
with the fifth chunk's operations, and the `…_eq` lemmas say that the other chunks' operations are
the same functions.
-/

@[expose] public section

set_option maxRecDepth 16384

noncomputable section

open Idealize.ShloMosaic Idealize.ShloMosaic.TcCoe

namespace Cert.KernelIdeal.Value

open Cert.KernelIdeal Cert.KernelIdeal.Gen Cert.Softmax

/-- The running maximum, denominator and numerator of the 16 heads. -/
@[ext] structure State where
  m : FVec Ideal S16x1 .f32
  l : FVec Ideal S16x1 .f32
  a : FVec Ideal S16x512 .f32

/-- The new denominator: the old one rescaled, plus the chunk's exponentials. -/
def denom (m l : FVec Ideal S16x1 .f32) (s : FVec Ideal S16x1024 .f32) : FVec Ideal S16x1 .f32 :=
  addf (mulf l (k0_pay44 m s))
    (shapeCast S16x1 (multiReduction .add [1] S16 (k0_pay45 m s) 0x00000000#32 reduces_S16x1024_S16 (.inl rfl) rfl) shapeCasts_S16_S16x1)

/-- The state after one chunk with the scores `s`, the codes `cd` and the scales `sc`. -/
def update (s : FVec Ideal S16x1024 .f32) (cd : Vec Ideal S1x1024x512 .fp8e4m3) (sc : Vec Ideal S1x1x1024 .f32) (σ : State) : State :=
  ⟨k0_pay43 σ.m s, denom σ.m σ.l s, k0_pay46 σ.m σ.a (k0_pay40 cd) (k0_pay41 sc) s⟩

/-- The state after one chunk: queries `q` and `qr`, codes `cd`, scales `sc`, rotary keys `rp`. -/
def chunk (q : FVec Ideal S16x512 .bf16) (qr : FVec Ideal S16x64 .bf16) (cd : Vec Ideal S1x1024x512 .fp8e4m3)
    (sc : Vec Ideal S1x1x1024 .f32) (rp : Vec Ideal S1x1024x64 .bf16) (σ : State) : State :=
  update (k0_pay42 q qr cd sc rp) cd sc σ

section Same

variable (q3 : Vec Ideal S1x16x512 .bf16) (qr3 : Vec Ideal S1x16x64 .bf16)
  (q : FVec Ideal S16x512 .bf16) (qr : FVec Ideal S16x64 .bf16)
  (cd cd' : Vec Ideal S1x1024x512 .fp8e4m3) (sc sc' : Vec Ideal S1x1x1024 .f32) (rp rp' : Vec Ideal S1x1024x64 .bf16)
  (s : FVec Ideal S16x1024 .f32) (m l : FVec Ideal S16x1 .f32) (a : FVec Ideal S16x512 .f32)

theorem pay10_eq : k0_pay10 q3 qr3 m cd sc rp = k0_pay43 m (k0_pay42 (k0_pay5 q3) (k0_pay6 qr3) cd sc rp) := rfl
theorem pay11_eq : k0_pay11 q3 qr3 m cd sc rp = k0_pay44 m (k0_pay42 (k0_pay5 q3) (k0_pay6 qr3) cd sc rp) := rfl
theorem pay13_eq : k0_pay13 (k0_pay12 q3 qr3 m cd sc rp) = k0_pay45 m (k0_pay42 (k0_pay5 q3) (k0_pay6 qr3) cd sc rp) := rfl
theorem pay17_eq : k0_pay17 q qr m cd sc rp = k0_pay43 m (k0_pay42 q qr cd sc rp) := rfl
theorem pay26_eq : k0_pay26 q qr m cd sc rp = k0_pay43 m (k0_pay42 q qr cd sc rp) := rfl
theorem pay35_eq : k0_pay35 qr m (k0_pay32 sc) (k0_pay33 q cd) rp = k0_pay43 m (k0_pay42 q qr cd sc rp) := rfl
theorem pay50_eq : k0_pay50 q qr m s cd sc rp = k0_pay43 (k0_pay43 m s) (k0_pay42 q qr cd sc rp) := rfl
theorem pay58_eq : k0_pay58 q qr m cd sc rp = k0_pay43 m (k0_pay42 q qr cd sc rp) := rfl
theorem pay66_eq : k0_pay66 q qr m cd sc rp = k0_pay43 m (k0_pay42 q qr cd sc rp) := rfl

theorem pay20_eq : k0_pay20 q qr l (k0_pay10 q3 qr3 m cd sc rp) (k0_pay11 q3 qr3 m cd sc rp) (k0_pay12 q3 qr3 m cd sc rp) cd' sc' rp'
    = denom (k0_pay43 m (k0_pay42 (k0_pay5 q3) (k0_pay6 qr3) cd sc rp)) (denom m l (k0_pay42 (k0_pay5 q3) (k0_pay6 qr3) cd sc rp)) (k0_pay42 q qr cd' sc' rp') := rfl
theorem pay29_eq : k0_pay29 q qr m l cd sc rp = denom m l (k0_pay42 q qr cd sc rp) := rfl
theorem pay38_eq : k0_pay38 qr m l (k0_pay32 sc) (k0_pay33 q cd) rp = denom m l (k0_pay42 q qr cd sc rp) := rfl
theorem pay61_eq : k0_pay61 q qr (k0_pay50 q qr m s cd sc rp) (k0_pay53 q qr m l s cd sc rp) (k0_pay54 q qr m s cd sc rp) cd' sc' rp'
    = denom (k0_pay43 (k0_pay43 m s) (k0_pay42 q qr cd sc rp)) (denom (k0_pay43 m s) (denom m l s) (k0_pay42 q qr cd sc rp)) (k0_pay42 q qr cd' sc' rp') := rfl
theorem pay69_eq : k0_pay69 q qr m l cd sc rp = denom m l (k0_pay42 q qr cd sc rp) := rfl

theorem pay30_eq (m' : FVec Ideal S16x1 .f32) (cd'' : Vec Ideal S1x1024x512 .fp8e4m3) (sc'' : Vec Ideal S1x1x1024 .f32) (rp'' : Vec Ideal S1x1024x64 .bf16) :
    k0_pay30 q qr m' (k0_pay21 q qr (k0_pay10 q3 qr3 m cd sc rp) cd' sc' rp')
      (k0_pay22 q qr a (k0_pay7 cd) (k0_pay8 sc) (k0_pay10 q3 qr3 m cd sc rp) (k0_pay11 q3 qr3 m cd sc rp) (k0_pay12 q3 qr3 m cd sc rp) cd' sc' rp') cd'' sc'' rp''
    = k0_pay46 m' (k0_pay46 (k0_pay43 m (k0_pay42 (k0_pay5 q3) (k0_pay6 qr3) cd sc rp))
        (k0_pay46 m a (k0_pay40 cd) (k0_pay41 sc) (k0_pay42 (k0_pay5 q3) (k0_pay6 qr3) cd sc rp)) (k0_pay40 cd') (k0_pay41 sc') (k0_pay42 q qr cd' sc' rp'))
        (k0_pay40 cd'') (k0_pay41 sc'') (k0_pay42 q qr cd'' sc'' rp'') := rfl
theorem pay39_eq : k0_pay39 qr m a (k0_pay31 cd) (k0_pay32 sc) (k0_pay33 q cd) rp
    = k0_pay46 m a (k0_pay40 cd) (k0_pay41 sc) (k0_pay42 q qr cd sc rp) := rfl
theorem pay62_eq : k0_pay62 q qr a (k0_pay47 cd) (k0_pay48 sc) (k0_pay50 q qr m s cd sc rp) (k0_pay51 q qr m s cd sc rp) (k0_pay52 q qr m s cd sc rp) cd' sc' rp'
    = k0_pay46 (k0_pay43 (k0_pay43 m s) (k0_pay42 q qr cd sc rp)) (k0_pay46 (k0_pay43 m s) a (k0_pay40 cd) (k0_pay41 sc) (k0_pay42 q qr cd sc rp))
        (k0_pay40 cd') (k0_pay41 sc') (k0_pay42 q qr cd' sc' rp') := rfl
theorem pay70_eq : k0_pay70 q qr m a cd sc rp = k0_pay46 m a (k0_pay40 cd) (k0_pay41 sc) (k0_pay42 q qr cd sc rp) := rfl

end Same

section AtIndex

variable (q : FVec Ideal S16x512 .bf16) (qr : FVec Ideal S16x64 .bf16) (cd : Vec Ideal S1x1024x512 .fp8e4m3)
  (sc : Vec Ideal S1x1x1024 .f32) (rp : Vec Ideal S1x1024x64 .bf16) (s : FVec Ideal S16x1024 .f32)
  (m l : FVec Ideal S16x1 .f32) (a : FVec Ideal S16x512 .f32)

/-- The score of head `h` for the chunk's token `k`. -/
theorem score_at (h : Fin 16) (k : Fin 1024) : k0_pay42 q qr cd sc rp (ix2 h k)
    = ((∑ x : Fin 512, q (ix2 h x) * cd (ix3 0 k x)) * sc (ix3 0 0 k) + ∑ x : Fin 64, qr (ix2 h x) * rp (ix3 0 k x))
        * Ideal.ofBits .f32 0x3D93CD3A#32 := by
  pointwise [k0_pay42, k0_pay40, k0_pay41]

/-- The new running maximum of head `h`. -/
theorem max_at (h : Fin 16) : k0_pay43 m s (ix2 h 0)
    = max (m (ix2 h 0)) (Finset.univ.fold max (⊥ : EReal) fun k : Fin 1024 => s (ix2 h k)) := by
  have e : Ideal.ofBits .f32 0xFF800000#32 = (⊥ : EReal) := by
    simp [Ideal.ofBits, Ideal.ieee]
  pointwise [k0_pay43]
  rw [e]

/-- The new running denominator of head `h`. -/
theorem denom_at (h : Fin 16) : denom m l s (ix2 h 0)
    = l (ix2 h 0) * Ideal.exp (m (ix2 h 0) - k0_pay43 m s (ix2 h 0))
      + ∑ k : Fin 1024, Ideal.exp (s (ix2 h k) - k0_pay43 m s (ix2 h 0)) := by
  pointwise [denom, k0_pay44, k0_pay45]

/-- The new running numerator of head `h` at channel `c`. -/
theorem num_at (h : Fin 16) (c : Fin 512) : k0_pay46 m a (k0_pay40 cd) (k0_pay41 sc) s (ix2 h c)
    = a (ix2 h c) * Ideal.exp (m (ix2 h 0) - k0_pay43 m s (ix2 h 0))
      + ∑ k : Fin 1024, Ideal.exp (s (ix2 h k) - k0_pay43 m s (ix2 h 0)) * sc (ix3 0 0 k) * cd (ix3 0 k c) := by
  pointwise [k0_pay46, k0_pay44, k0_pay45, k0_pay40, k0_pay41]

end AtIndex

/-- One batch row of the problem: the queries of its 16 heads, and its tokens by number. -/
structure Row where
  q : Fin 16 → Fin 512 → EReal
  qr : Fin 16 → Fin 64 → EReal
  code : ℕ → Fin 512 → EReal
  scale : ℕ → EReal
  rope : ℕ → Fin 64 → EReal

/-- The score of head `h` for token `t`. -/
def Row.score (R : Row) (h : Fin 16) (t : ℕ) : EReal :=
  ((∑ x : Fin 512, R.q h x * R.code t x) * R.scale t + ∑ x : Fin 64, R.qr h x * R.rope t x) * Ideal.ofBits .f32 0x3D93CD3A#32

/-- The state holds the maximum, denominator and numerator of the first `n` tokens. -/
def Holds (R : Row) (n : ℕ) (σ : State) : Prop := ∀ h : Fin 16,
  σ.m (ix2 h 0) = M (R.score h) n ∧ σ.l (ix2 h 0) = L (R.score h) (M (R.score h) n) n
    ∧ ∀ c : Fin 512, σ.a (ix2 h c) = A (R.score h) R.scale (fun t => R.code t c) (M (R.score h) n) n

/-- The three blocks of a chunk hold the tokens from `n` on. -/
def Tokens (R : Row) (n : ℕ) (cd : Vec Ideal S1x1024x512 .fp8e4m3) (sc : Vec Ideal S1x1x1024 .f32) (rp : Vec Ideal S1x1024x64 .bf16) : Prop :=
  ∀ k : Fin 1024, (∀ x : Fin 512, cd (ix3 0 k x) = R.code (n + k) x) ∧ sc (ix3 0 0 k) = R.scale (n + k)
    ∧ ∀ x : Fin 64, rp (ix3 0 k x) = R.rope (n + k) x

/-- The two blocks of queries are the row's. -/
def Queries (R : Row) (q : FVec Ideal S16x512 .bf16) (qr : FVec Ideal S16x64 .bf16) : Prop :=
  ∀ h : Fin 16, (∀ x : Fin 512, q (ix2 h x) = R.q h x) ∧ ∀ x : Fin 64, qr (ix2 h x) = R.qr h x

/-- One chunk carries the state over 1024 more tokens. -/
theorem Holds.chunk {R : Row} {n : ℕ} {σ : State} {q : FVec Ideal S16x512 .bf16} {qr : FVec Ideal S16x64 .bf16}
    {cd : Vec Ideal S1x1024x512 .fp8e4m3} {sc : Vec Ideal S1x1x1024 .f32} {rp : Vec Ideal S1x1024x64 .bf16}
    (hσ : Holds R n σ) (hq : Queries R q qr) (ht : Tokens R n cd sc rp) : Holds R (n + 1024) (chunk q qr cd sc rp σ) := by
  have hs : ∀ h k, k0_pay42 q qr cd sc rp (ix2 h k) = R.score h (n + k) := fun h k => by
    rw [score_at, Row.score, (ht k).2.1]
    simp only [(hq h).1, (hq h).2, (ht k).1, (ht k).2.2]
  intro h
  obtain ⟨hm, hl, ha⟩ := hσ h
  have hM : k0_pay43 σ.m (k0_pay42 q qr cd sc rp) (ix2 h 0) = M (R.score h) (n + 1024) := by
    rw [max_at, hm]; simp only [hs]; exact M_add (R.score h) n 1024
  refine ⟨hM, ?_, fun c => ?_⟩
  · change denom _ _ _ _ = _
    rw [denom_at, hM, hm, hl]; simp only [hs]; exact L_add (R.score h) n 1024
  · change k0_pay46 _ _ _ _ _ _ = _
    rw [num_at, hM, hm, ha c]; simp only [hs, (ht _).1, (ht _).2.1]
    exact A_add (R.score h) R.scale (fun t => R.code t c) n 1024

end Cert.KernelIdeal.Value
-- ==== Proof.Point.lean ====
module

public import proofs.«01_k».proof.Proof.Chunk
public import proofs.«01_k».proof.Proof.Gen.KernelIdeal.Value
public import Idealize.ShloMosaic.Lib.Pipeline.ReadBack

/-!
One grid point: eight chunks, one after the other, on the state the point before left (or, at the
first point of a batch row, on the initial state).
-/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax

/-- The state after the eight chunks of a point whose blocks are `x0`, …, `x4`. -/
def point (x0 : Vec Ideal S1x16x512 .bf16) (x1 : Vec Ideal S1x16x64 .bf16) (x2 : Vec Ideal S1x8192x512 .fp8e4m3)
    (x3 : Vec Ideal S1x1x8192 .f32) (x4 : Vec Ideal S1x8192x64 .bf16) (σ : State) : State :=
  let σ1 := chunk (k0_pay5 x0) (k0_pay6 x1)
    (View.ld x2 (Rect.unit ![0, 0, 0] ![1, 1024, 512] inb_S1x8192x512_S1x1024x512_0_0_0))
    (View.ld x3 (Rect.unit ![0, 0, 0] ![1, 1, 1024] inb_S1x1x8192_S1x1x1024_0_0_0))
    (View.ld x4 (Rect.unit ![0, 0, 0] ![1, 1024, 64] inb_S1x8192x64_S1x1024x64_0_0_0)) σ
  let σ2 := chunk (k0_pay5 x0) (k0_pay6 x1)
    (View.ld x2 (Rect.unit ![0, 1024, 0] ![1, 1024, 512] inb_S1x8192x512_S1x1024x512_0_1024_0))
    (View.ld x3 (Rect.unit ![0, 0, 1024] ![1, 1, 1024] inb_S1x1x8192_S1x1x1024_0_0_1024))
    (View.ld x4 (Rect.unit ![0, 1024, 0] ![1, 1024, 64] inb_S1x8192x64_S1x1024x64_0_1024_0)) σ1
  let σ3 := chunk (k0_pay5 x0) (k0_pay6 x1)
    (View.ld x2 (Rect.unit ![0, 2048, 0] ![1, 1024, 512] inb_S1x8192x512_S1x1024x512_0_2048_0))
    (View.ld x3 (Rect.unit ![0, 0, 2048] ![1, 1, 1024] inb_S1x1x8192_S1x1x1024_0_0_2048))
    (View.ld x4 (Rect.unit ![0, 2048, 0] ![1, 1024, 64] inb_S1x8192x64_S1x1024x64_0_2048_0)) σ2
  let σ4 := chunk (k0_pay5 x0) (k0_pay6 x1)
    (View.ld x2 (Rect.unit ![0, 3072, 0] ![1, 1024, 512] inb_S1x8192x512_S1x1024x512_0_3072_0))
    (View.ld x3 (Rect.unit ![0, 0, 3072] ![1, 1, 1024] inb_S1x1x8192_S1x1x1024_0_0_3072))
    (View.ld x4 (Rect.unit ![0, 3072, 0] ![1, 1024, 64] inb_S1x8192x64_S1x1024x64_0_3072_0)) σ3
  let σ5 := chunk (k0_pay5 x0) (k0_pay6 x1)
    (View.ld x2 (Rect.unit ![0, 4096, 0] ![1, 1024, 512] inb_S1x8192x512_S1x1024x512_0_4096_0))
    (View.ld x3 (Rect.unit ![0, 0, 4096] ![1, 1, 1024] inb_S1x1x8192_S1x1x1024_0_0_4096))
    (View.ld x4 (Rect.unit ![0, 4096, 0] ![1, 1024, 64] inb_S1x8192x64_S1x1024x64_0_4096_0)) σ4
  let σ6 := chunk (k0_pay5 x0) (k0_pay6 x1)
    (View.ld x2 (Rect.unit ![0, 5120, 0] ![1, 1024, 512] inb_S1x8192x512_S1x1024x512_0_5120_0))
    (View.ld x3 (Rect.unit ![0, 0, 5120] ![1, 1, 1024] inb_S1x1x8192_S1x1x1024_0_0_5120))
    (View.ld x4 (Rect.unit ![0, 5120, 0] ![1, 1024, 64] inb_S1x8192x64_S1x1024x64_0_5120_0)) σ5
  let σ7 := chunk (k0_pay5 x0) (k0_pay6 x1)
    (View.ld x2 (Rect.unit ![0, 6144, 0] ![1, 1024, 512] inb_S1x8192x512_S1x1024x512_0_6144_0))
    (View.ld x3 (Rect.unit ![0, 0, 6144] ![1, 1, 1024] inb_S1x1x8192_S1x1x1024_0_0_6144))
    (View.ld x4 (Rect.unit ![0, 6144, 0] ![1, 1024, 64] inb_S1x8192x64_S1x1024x64_0_6144_0)) σ6
  let σ8 := chunk (k0_pay5 x0) (k0_pay6 x1)
    (View.ld x2 (Rect.unit ![0, 7168, 0] ![1, 1024, 512] inb_S1x8192x512_S1x1024x512_0_7168_0))
    (View.ld x3 (Rect.unit ![0, 0, 7168] ![1, 1, 1024] inb_S1x1x8192_S1x1x1024_0_0_7168))
    (View.ld x4 (Rect.unit ![0, 7168, 0] ![1, 1024, 64] inb_S1x8192x64_S1x1024x64_0_7168_0)) σ7
  σ8

/-- The state before a batch row's first token. -/
def start : State := ⟨k0_pay2, k0_pay3, k0_pay4⟩

variable (m : (ℓ : Loc nD τ sig) → Buf (Elt Ideal) ℓ)

/-- The state point `n` leaves in the three scratch arrays. -/
def stateAt (c : Dev nD) (n : ℕ) (hn : n < cfg0.N) : State :=
  ⟨(outsAt0 m c n hn).2.1, (outsAt0 m c n hn).2.2.1, (outsAt0 m c n hn).2.2.2⟩

theorem pay71_eq (q qr m cd sc rp) : k0_pay71 (F := Ideal) q qr m cd sc rp = k0_pay43 m (k0_pay42 q qr cd sc rp) := by
  unfold k0_pay71; rw [shapeCast_self]; rfl
theorem pay72_eq (q qr m l cd sc rp) : k0_pay72 (F := Ideal) q qr m l cd sc rp = denom m l (k0_pay42 q qr cd sc rp) := by
  unfold k0_pay72; rw [shapeCast_self]; rfl
theorem pay73_eq (q qr m a cd sc rp) : k0_pay73 (F := Ideal) q qr m a cd sc rp
    = k0_pay46 m a (k0_pay40 cd) (k0_pay41 sc) (k0_pay42 q qr cd sc rp) := by
  unfold k0_pay73; rw [shapeCast_self]; rfl

/-- The first point of a batch row. -/
theorem stateAt_A (c : Dev nD) (t : Fin cfg0.N) (h0 : t.val % 8 = 0) (h1 : ¬t.val % 8 = 7) :
    stateAt m c t.val t.isLt = point (iblk m c 0 t) (iblk m c 1 t) (iblk m c 2 t) (iblk m c 3 t) (iblk m c 4 t)
      start := by
  refine State.ext ?_ ?_ ?_
  · show (outsAt0 m c t.val t.isLt).2.1 = _
    rw [outsAt0_A m c t h0 h1]; dsimp only
    frame_out
    try simp only [pay20_eq, pay30_eq, pay61_eq, pay62_eq]
    simp only [pay71_eq, pay72_eq, pay73_eq, pay10_eq, pay17_eq, pay26_eq, pay29_eq, pay35_eq, pay38_eq, pay39_eq, pay50_eq, pay58_eq, pay69_eq, pay70_eq, read_unread_whole]
    dsimp only [point, chunk, update, stateAt, start]
    try rfl
  · show (outsAt0 m c t.val t.isLt).2.2.1 = _
    rw [outsAt0_A m c t h0 h1]; dsimp only
    frame_out
    try simp only [pay20_eq, pay30_eq, pay61_eq, pay62_eq]
    simp only [pay71_eq, pay72_eq, pay73_eq, pay10_eq, pay17_eq, pay26_eq, pay29_eq, pay35_eq, pay38_eq, pay39_eq, pay50_eq, pay58_eq, pay69_eq, pay70_eq, read_unread_whole]
    dsimp only [point, chunk, update, stateAt, start]
    try rfl
  · show (outsAt0 m c t.val t.isLt).2.2.2 = _
    rw [outsAt0_A m c t h0 h1]; dsimp only
    frame_out
    try simp only [pay20_eq, pay30_eq, pay61_eq, pay62_eq]
    simp only [pay71_eq, pay72_eq, pay73_eq, pay10_eq, pay17_eq, pay26_eq, pay29_eq, pay35_eq, pay38_eq, pay39_eq, pay50_eq, pay58_eq, pay69_eq, pay70_eq, read_unread_whole]
    dsimp only [point, chunk, update, stateAt, start]
    try rfl

/-- A point in the middle of a batch row. -/
theorem stateAt_B (c : Dev nD) (t : Fin cfg0.N) (h0 : ¬t.val % 8 = 0) (h1 : ¬t.val % 8 = 7) :
    stateAt m c t.val t.isLt = point (iblk m c 0 t) (iblk m c 1 t) (iblk m c 2 t) (iblk m c 3 t) (iblk m c 4 t)
      (stateAt m c (t.val - 1) (Nat.lt_of_le_of_lt (Nat.sub_le _ _) t.isLt)) := by
  refine State.ext ?_ ?_ ?_
  · show (outsAt0 m c t.val t.isLt).2.1 = _
    rw [outsAt0_B m c t h0 h1]; dsimp only
    frame_out
    try simp only [pay20_eq, pay30_eq, pay61_eq, pay62_eq]
    simp only [pay71_eq, pay72_eq, pay73_eq, pay10_eq, pay17_eq, pay26_eq, pay29_eq, pay35_eq, pay38_eq, pay39_eq, pay50_eq, pay58_eq, pay69_eq, pay70_eq, read_unread_whole]
    dsimp only [point, chunk, update, stateAt, start]
    try rfl
  · show (outsAt0 m c t.val t.isLt).2.2.1 = _
    rw [outsAt0_B m c t h0 h1]; dsimp only
    frame_out
    try simp only [pay20_eq, pay30_eq, pay61_eq, pay62_eq]
    simp only [pay71_eq, pay72_eq, pay73_eq, pay10_eq, pay17_eq, pay26_eq, pay29_eq, pay35_eq, pay38_eq, pay39_eq, pay50_eq, pay58_eq, pay69_eq, pay70_eq, read_unread_whole]
    dsimp only [point, chunk, update, stateAt, start]
    try rfl
  · show (outsAt0 m c t.val t.isLt).2.2.2 = _
    rw [outsAt0_B m c t h0 h1]; dsimp only
    frame_out
    try simp only [pay20_eq, pay30_eq, pay61_eq, pay62_eq]
    simp only [pay71_eq, pay72_eq, pay73_eq, pay10_eq, pay17_eq, pay26_eq, pay29_eq, pay35_eq, pay38_eq, pay39_eq, pay50_eq, pay58_eq, pay69_eq, pay70_eq, read_unread_whole]
    dsimp only [point, chunk, update, stateAt, start]
    try rfl

/-- The last point of a batch row. -/
theorem stateAt_C (c : Dev nD) (t : Fin cfg0.N) (h0 : ¬t.val % 8 = 0) (h1 : t.val % 8 = 7) :
    stateAt m c t.val t.isLt = point (iblk m c 0 t) (iblk m c 1 t) (iblk m c 2 t) (iblk m c 3 t) (iblk m c 4 t)
      (stateAt m c (t.val - 1) (Nat.lt_of_le_of_lt (Nat.sub_le _ _) t.isLt)) := by
  refine State.ext ?_ ?_ ?_
  · show (outsAt0 m c t.val t.isLt).2.1 = _
    rw [outsAt0_C m c t h0 h1]; dsimp only
    frame_out
    try simp only [pay20_eq, pay30_eq, pay61_eq, pay62_eq]
    simp only [pay71_eq, pay72_eq, pay73_eq, pay10_eq, pay17_eq, pay26_eq, pay29_eq, pay35_eq, pay38_eq, pay39_eq, pay50_eq, pay58_eq, pay69_eq, pay70_eq, read_unread_whole]
    dsimp only [point, chunk, update, stateAt, start]
    try rfl
  · show (outsAt0 m c t.val t.isLt).2.2.1 = _
    rw [outsAt0_C m c t h0 h1]; dsimp only
    frame_out
    try simp only [pay20_eq, pay30_eq, pay61_eq, pay62_eq]
    simp only [pay71_eq, pay72_eq, pay73_eq, pay10_eq, pay17_eq, pay26_eq, pay29_eq, pay35_eq, pay38_eq, pay39_eq, pay50_eq, pay58_eq, pay69_eq, pay70_eq, read_unread_whole]
    dsimp only [point, chunk, update, stateAt, start]
    try rfl
  · show (outsAt0 m c t.val t.isLt).2.2.2 = _
    rw [outsAt0_C m c t h0 h1]; dsimp only
    frame_out
    try simp only [pay20_eq, pay30_eq, pay61_eq, pay62_eq]
    simp only [pay71_eq, pay72_eq, pay73_eq, pay10_eq, pay17_eq, pay26_eq, pay29_eq, pay35_eq, pay38_eq, pay39_eq, pay50_eq, pay58_eq, pay69_eq, pay70_eq, read_unread_whole]
    dsimp only [point, chunk, update, stateAt, start]
    try rfl

/-- What the last point of a batch row stores in the output block. -/
theorem outAt_C (c : Dev nD) (t : Fin cfg0.N) (h0 : ¬t.val % 8 = 0) (h1 : t.val % 8 = 7) :
    (outsAt0 m c t.val t.isLt).1 = k0_pay1 (stateAt m c t.val t.isLt).l (stateAt m c t.val t.isLt).a := by
  rw [stateAt_C m c t h0 h1, outsAt0_C m c t h0 h1]; dsimp only
  frame_out
  try simp only [pay20_eq, pay30_eq, pay61_eq, pay62_eq]
  simp only [pay71_eq, pay72_eq, pay73_eq, pay10_eq, pay17_eq, pay26_eq, pay29_eq, pay35_eq, pay38_eq, pay39_eq, pay50_eq, pay58_eq, pay69_eq, pay70_eq, read_unread_whole]
  dsimp only [point, chunk, update, stateAt, start]
  try rfl

end Cert.KernelIdeal.Value
-- ==== Proof.Answer.lean ====
module

public import proofs.«01_k».proof.Proof.Chunk

/-!
The answer both programs compute: the softmax average of the tokens' values, written over the five
argument arrays.
-/

@[expose] public section

set_option maxRecDepth 16384

noncomputable section

open Idealize.ShloMosaic Idealize.ShloMosaic.TcCoe

namespace Cert.KernelIdeal.Value

open Cert.KernelIdeal Cert.KernelIdeal.Gen Cert.Softmax

variable (X0 : FVec Ideal S16x1x8192 .bf16) (X1 : FVec Ideal S16x1x16x64 .bf16) (X2 : FVec Ideal S16x65536x512 .fp8e4m3)
  (X3 : FVec Ideal S16x65536 .f32) (X4 : FVec Ideal S16x65536x64 .bf16)

/-- Batch row `b` of the argument arrays. -/
def row (b : Fin 16) : Row where
  q h x := X0 (ix3 b 0 ⟨512 * h.val + x.val, by omega⟩)
  qr h x := X1 (ix4 b 0 h x)
  code t x := if ht : t < 65536 then X2 (ix3 b ⟨t, ht⟩ x) else 0
  scale t := if ht : t < 65536 then X3 (ix2 b ⟨t, ht⟩) else 0
  rope t x := if ht : t < 65536 then X4 (ix3 b ⟨t, ht⟩ x) else 0

/-- Head `h`'s output at channel `x`: the numerator over the denominator, over all the tokens. -/
def Row.out (R : Row) (h : Fin 16) (x : Fin 512) : EReal :=
  Ideal.div (A (R.score h) R.scale (fun t => R.code t x) (M (R.score h) 65536) 65536) (L (R.score h) (M (R.score h) 65536) 65536)

/-- The whole result array. -/
def answer : FVec Ideal S16x16x512 .bf16 := fun i => (row X0 X1 X2 X3 X4 (i 0)).out (i 1) (i 2)

end Cert.KernelIdeal.Value
-- ==== Proof.KernelValue.lean ====
module

public import proofs.«01_k».proof.Proof.Point
public import proofs.«01_k».proof.Proof.Answer
public import Idealize.ShloMosaic.Lib.Claim

/-!
The kernel's result: at every index the softmax average of `Answer.lean`.
-/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax

variable (m : (ℓ : Loc nD τ sig) → Buf (Elt Ideal) ℓ)

/-- Batch row `b` of the argument arrays. -/
abbrev rowAt (c : Dev nD) (b : Fin 16) : Row :=
  row (m ((c : Thread nD τ).loc main_arg0)) (m ((c : Thread nD τ).loc main_arg1)) (m ((c : Thread nD τ).loc main_arg2))
    (m ((c : Thread nD τ).loc main_arg3)) (m ((c : Thread nD τ).loc main_arg4)) b

/-- Which block each window holds at each point. -/
theorem idx : ∀ t : Fin cfg0.N, win0_0.index t = ![t.val / 8, 0, 0] ∧ win0_1.index t = ![t.val / 8, 0, 0]
    ∧ win0_2.index t = ![t.val / 8, t.val % 8, 0] ∧ win0_3.index t = ![t.val / 8, 0, t.val % 8]
    ∧ win0_4.index t = ![t.val / 8, t.val % 8, 0] ∧ t.val / 8 < 16 :=
  (by decide +kernel : ∀ t : Fin grid0.N, _)

/-- The state before the first token holds no token. -/
theorem start_holds (R : Row) : Holds R 0 start := by
  have e : Ideal.ofBits .f32 0xFF800000#32 = (⊥ : EReal) := by simp [Ideal.ofBits, Ideal.ieee]
  have z : Ideal.ofBits .f32 0x00000000#32 = (0 : EReal) := by simp [Ideal.ofBits, Ideal.ieee]
  intro h
  rw [M_zero, L_zero]
  refine ⟨?_, ?_, fun c => ?_⟩
  · show k0_pay2 (F := Ideal) (ix2 h 0) = _
    pointwise [k0_pay2]; try exact e
  · show k0_pay3 (F := Ideal) (ix2 h 0) = _
    pointwise [k0_pay3]; try exact z
  · show k0_pay4 (F := Ideal) (ix2 h c) = _
    rw [A_zero]
    pointwise [k0_pay4]; try exact z

/-- One grid point carries the state over 8192 more tokens. -/
theorem point_holds {R : Row} {n : ℕ} {σ : State} {x0 : Vec Ideal S1x16x512 .bf16} {x1 : Vec Ideal S1x16x64 .bf16}
    {x2 : Vec Ideal S1x8192x512 .fp8e4m3} {x3 : Vec Ideal S1x1x8192 .f32} {x4 : Vec Ideal S1x8192x64 .bf16}
    (hσ : Holds R n σ) (h0 : ∀ (h : Fin 16) (x : Fin 512), x0 (ix3 0 h x) = R.q h x) (h1 : ∀ (h : Fin 16) (x : Fin 64), x1 (ix3 0 h x) = R.qr h x)
    (h2 : ∀ (k : Fin 8192) (x : Fin 512), x2 (ix3 0 k x) = R.code (n + k) x) (h3 : ∀ k : Fin 8192, x3 (ix3 0 0 k) = R.scale (n + k))
    (h4 : ∀ (k : Fin 8192) (x : Fin 64), x4 (ix3 0 k x) = R.rope (n + k) x) : Holds R (n + 8192) (point x0 x1 x2 x3 x4 σ) := by
  have hq : Queries R (k0_pay5 x0) (k0_pay6 x1) := fun h => by
    refine ⟨fun x => ?_, fun x => ?_⟩
    · rw [← h0 h x]; pointwise [k0_pay5]
    · rw [← h1 h x]; pointwise [k0_pay6]
  have ht : ∀ (o : ℕ) (i2 : ∀ a, (![0, o, 0] : Fin 3 → ℕ) a + S1x1024x512.size a ≤ S1x8192x512.size a)
      (i3 : ∀ a, (![0, 0, o] : Fin 3 → ℕ) a + S1x1x1024.size a ≤ S1x1x8192.size a)
      (i4 : ∀ a, (![0, o, 0] : Fin 3 → ℕ) a + S1x1024x64.size a ≤ S1x8192x64.size a),
      Tokens R (n + o) (View.ld x2 (Rect.unit ![0, o, 0] ![1, 1024, 512] i2)) (View.ld x3 (Rect.unit ![0, 0, o] ![1, 1, 1024] i3))
        (View.ld x4 (Rect.unit ![0, o, 0] ![1, 1024, 64] i4)) := by
    intro o i2 i3 i4 k
    have ho : o + 1024 ≤ 8192 := i2 1
    have hk : o + k.val < 8192 := by omega
    refine ⟨fun x => ?_, ?_, fun x => ?_⟩
    · rw [Nat.add_assoc, ← h2 ⟨o + k.val, hk⟩ x]
      pointwise
    · rw [Nat.add_assoc, ← h3 ⟨o + k.val, hk⟩]
      pointwise
    · rw [Nat.add_assoc, ← h4 ⟨o + k.val, hk⟩ x]
      pointwise
  unfold point
  exact (((((((hσ.chunk hq (ht 0 _ _ _)).chunk hq (ht 1024 _ _ _)).chunk hq (ht 2048 _ _ _)).chunk hq (ht 3072 _ _ _)).chunk hq
    (ht 4096 _ _ _)).chunk hq (ht 5120 _ _ _)).chunk hq (ht 6144 _ _ _)).chunk hq (ht 7168 _ _ _)

section Blocks

variable (c : Dev nD) (t : Fin cfg0.N)

/-- The row the point works on. -/
abbrev rowOf : Row := rowAt m c ⟨t.val / 8, (idx t).2.2.2.2.2⟩

theorem blk0 (h : Fin 16) (x : Fin 512) : iblk m c 0 t (ix3 0 h x) = (rowOf m c t).q h x := by
  blk_simp [iblk, idx t]
  entry_read
  pointwise [row]
  blk_ext [idx t]

theorem blk1 (h : Fin 16) (x : Fin 64) : iblk m c 1 t (ix3 0 h x) = (rowOf m c t).qr h x := by
  blk_simp [iblk, idx t]
  entry_read
  pointwise [row]
  blk_ext [idx t]

theorem blk2 (k : Fin 8192) (x : Fin 512) : iblk m c 2 t (ix3 0 k x) = (rowOf m c t).code (8192 * (t.val % 8) + k) x := by
  have hk : 8192 * (t.val % 8) + k.val < 65536 := by omega
  simp only [row, dif_pos hk]
  blk_ext [iblk, V, idx t]

theorem blk3 (k : Fin 8192) : iblk m c 3 t (ix3 0 0 k) = (rowOf m c t).scale (8192 * (t.val % 8) + k) := by
  have hk : 8192 * (t.val % 8) + k.val < 65536 := by omega
  simp only [row, dif_pos hk]
  blk_simp [iblk, idx t]
  entry_read
  pointwise
  blk_ext [idx t]

theorem blk4 (k : Fin 8192) (x : Fin 64) : iblk m c 4 t (ix3 0 k x) = (rowOf m c t).rope (8192 * (t.val % 8) + k) x := by
  have hk : 8192 * (t.val % 8) + k.val < 65536 := by omega
  simp only [row, dif_pos hk]
  blk_ext [iblk, V, idx t]

/-- Point `t` carries the state over its 8192 tokens. -/
theorem step_holds {σ : State} (hσ : Holds (rowOf m c t) (8192 * (t.val % 8)) σ) :
    Holds (rowOf m c t) (8192 * (t.val % 8) + 8192) (point (iblk m c 0 t) (iblk m c 1 t) (iblk m c 2 t) (iblk m c 3 t) (iblk m c 4 t) σ) :=
  point_holds hσ (blk0 m c t) (blk1 m c t) (blk2 m c t) (blk3 m c t) (blk4 m c t)

end Blocks

/-- After point `n` the state holds the tokens of the batch row up to and including the point's. -/
theorem state_holds (c : Dev nD) (n : ℕ) : ∀ hn : n < cfg0.N,
    Holds (rowOf m c ⟨n, hn⟩) (8192 * (n % 8) + 8192) (stateAt m c n hn) := by
  induction n with
  | zero =>
    intro hn
    rw [stateAt_A m c ⟨0, hn⟩ (Nat.zero_mod 8) (by show ¬0 % 8 = 7; decide)]
    exact step_holds m c ⟨0, hn⟩ (start_holds _)
  | succ n ih =>
    intro hn
    by_cases h0 : (n + 1) % 8 = 0
    · rw [stateAt_A m c ⟨n + 1, hn⟩ h0 (by dsimp only; omega)]
      refine step_holds m c ⟨n + 1, hn⟩ ?_
      dsimp only; rw [h0]
      exact start_holds _
    · have e : rowOf m c ⟨n + 1, hn⟩ = rowOf m c ⟨n, Nat.lt_of_succ_lt hn⟩ := by
        unfold rowOf; congr 1; exact Fin.ext (by show (n + 1) / 8 = n / 8; omega)
      have hp := ih (Nat.lt_of_succ_lt hn)
      rw [← e, show 8192 * (n % 8) + 8192 = 8192 * ((n + 1) % 8) by omega] at hp
      by_cases h1 : (n + 1) % 8 = 7
      · rw [stateAt_C m c ⟨n + 1, hn⟩ h0 h1]; exact step_holds m c ⟨n + 1, hn⟩ hp
      · rw [stateAt_B m c ⟨n + 1, hn⟩ h0 h1]; exact step_holds m c ⟨n + 1, hn⟩ hp

/-- The kernel's result array is the answer. -/
theorem G5_eq (c : Dev nD) : G5 m c = answer (m ((c : Thread nD τ).loc main_arg0)) (m ((c : Thread nD τ).loc main_arg1))
    (m ((c : Thread nD τ).loc main_arg2)) (m ((c : Thread nD τ).loc main_arg3)) (m ((c : Thread nD τ).loc main_arg4)) := by
  funext i
  have hb : (i 0).val < 16 := (i 0).isLt
  have hh : (i 1).val < 16 := (i 1).isLt
  have hx : (i 2).val < 512 := (i 2).isLt
  have hp : pt5Of i = 8 * (i 0).val + 7 := by unfold pt5Of run5Of; omega
  have hN : pt5Of i < cfg0.N := by rw [hp]; exact lt_of_lt_of_eq (by omega) N_0.symm
  have hl : loc5Of i = ix3 0 (i 1) (i 2) := by
    blk_ext [loc5Of]
  have hs := state_holds m c (pt5Of i) hN (i 1)
  unfold G5
  rw [dif_pos hN, ← outsAt0_sweep m c _ hN, outAt_C m c ⟨pt5Of i, hN⟩ (by dsimp only; omega) (by dsimp only; omega), hl]
  have e : rowOf m c ⟨pt5Of i, hN⟩ = rowAt m c (i 0) := by
    unfold rowOf; congr 1; exact Fin.ext (by dsimp only; omega)
  rw [e, show 8192 * (pt5Of i % 8) + 8192 = 65536 by omega] at hs
  have hd : ∀ (l : FVec Ideal S16x1 .f32) (a : FVec Ideal S16x512 .f32) (h : Fin 16) (x : Fin 512),
      k0_pay1 l a (ix3 0 h x) = Ideal.div (a (ix2 h x)) (l (ix2 h 0)) := by
    intro l a h x; pointwise [k0_pay1]
  refine (hd _ _ (i 1) (i 2)).trans ?_
  dsimp only
  rw [hs.2.1]
  refine (congrArg (fun a => Ideal.div a _) (hs.2.2 (i 2))).trans ?_
  rfl

end Cert.KernelIdeal.Value
-- ==== Proof.ReferenceValue.lean ====
module

public import proofs.«01_k».proof.Proof.Answer
public import proofs.«01_k».proof.Proof.Gen.ReferenceIdeal.Value
public import Idealize.ShloMosaic.Lib.Claim
public import Idealize.ShloMosaic.Lib.Pipeline.ValueKit

/-!
The reference's result: the same softmax average of `Answer.lean`, computed over all the tokens at
once.
-/

@[expose] public section

set_option maxRecDepth 16384

noncomputable section

open Idealize.ShloMosaic Idealize.ShloMosaic.TcCoe

namespace Cert.ReferenceIdeal.Value

open Cert.ReferenceIdeal Cert.ReferenceIdeal.Gen Cert.Softmax Cert.KernelIdeal.Value

variable (m : (ℓ : Loc nD τ sig) → Buf (Elt Ideal) ℓ)

/-- The reference's body at one index, in terms of the row's scores: the softmax average of the row. -/
theorem body_at (R : Row) {v0 : Vec Ideal S16x65536x512 .fp8e4m3} {v1 : Vec Ideal S16x65536 .f32} {v3 : Vec Ideal S16x16x512 .bf16}
    {v7 : Vec Ideal S16x16x64 .bf16} {v9 : Vec Ideal S16x65536x64 .bf16} (b h : Fin 16) (x : Fin 512)
    (h0 : ∀ (k : Fin 65536) x, v0 (ix3 b k x) = R.code k x) (h1 : ∀ k : Fin 65536, v1 (ix2 b k) = R.scale k)
    (h3 : ∀ x, v3 (ix3 b h x) = R.q h x) (h7 : ∀ x, v7 (ix3 b h x) = R.qr h x)
    (h9 : ∀ (k : Fin 65536) x, v9 (ix3 b k x) = R.rope k x) :
    k0_pay1 v0 v1 v3 v7 v9 (ix3 b h x) = R.out h x := by
  have e : Ideal.ofBits .f32 0xFF800000#32 = (⊥ : EReal) := by
    simp [Ideal.ofBits, Ideal.ieee]
  have hs : ∀ k : Fin 65536, ((∑ x : Fin 512, R.q h x * R.code k x) * R.scale k + ∑ x : Fin 64, R.qr h x * R.rope k x)
      * Ideal.ofBits .f32 0x3D93CD3A#32 = R.score h k := fun k => rfl
  have hM : (Finset.univ.fold max (⊥ : EReal) fun k : Fin 65536 => R.score h k) = M (R.score h) 65536 := by
    simpa [M_zero] using M_add (R.score h) 0 65536
  pointwise [k0_pay1]
  simp only [h0, h1, h3, h7, h9, e, hs, hM]
  unfold Row.out A L
  rw [← Fin.sum_univ_eq_sum_range, ← Fin.sum_univ_eq_sum_range]

/-- The reference's result array is the answer. -/
theorem final (c : Dev nD) : (dats m 0 c).arrAt 5 cfg0.N
    = answer (m ((c : Thread nD τ).loc main_arg0)) (m ((c : Thread nD τ).loc main_arg1))
      (m ((c : Thread nD τ).loc main_arg2)) (m ((c : Thread nD τ).loc main_arg3)) (m ((c : Thread nD τ).loc main_arg4)) := by
  have idx : win0_0.index t0_0 = ![0, 0, 0] ∧ win0_1.index t0_0 = ![0, 0, 0] ∧ win0_2.index t0_0 = ![0, 0, 0]
      ∧ win0_3.index t0_0 = ![0, 0] ∧ win0_4.index t0_0 = ![0, 0, 0] := by decide +kernel
  refine (dats m 0 c).arrAt_eq_of_after_last 5 t0_0 (by decide +kernel) _ fun j => ?_
  blk_simp
  rw [after0_5]
  frame_out
  obtain ⟨b, h, x, rfl⟩ : ∃ (b h : Fin 16) (x : Fin 512), j = ix3 b h x := ⟨j 0, j 1, j 2, by blk_ext⟩
  refine body_at (row (m ((c : Thread nD τ).loc main_arg0)) (m ((c : Thread nD τ).loc main_arg1))
    (m ((c : Thread nD τ).loc main_arg2)) (m ((c : Thread nD τ).loc main_arg3)) (m ((c : Thread nD τ).loc main_arg4)) b) b h x
    (fun k x => ?_) (fun k => ?_) (fun x => ?_) (fun x => ?_) (fun k x => ?_)
  · simp only [row, dif_pos k.isLt]
    blk_ext [iblk, V, idx]
  · simp only [row, dif_pos k.isLt]
    blk_ext [iblk, V, idx]
  · blk_simp [iblk, idx]
    entry_read
    pointwise [row]
    blk_ext [idx]
  · blk_simp [iblk, idx]
    entry_read
    pointwise [row]
    blk_ext [idx]
  · simp only [row, dif_pos k.isLt]
    blk_ext [iblk, V, idx]

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- Both programs end with the array `answer` of their arguments. -/
theorem algebraic : Cert.algebraic_KernelIdeal_ReferenceIdeal := by
  intro m g m' g' _ hag
  refine ⟨fun c => Cert.KernelIdeal.Value.G5 m c, Cert.KernelIdeal.Value.run m g,
    (θ_run _ _ _).mono (fun r h c => ⟨(h c).1.trans ?_, (h c).2⟩) (Cert.ReferenceIdeal.Value.run_blocks m' g')⟩
  obtain ⟨e0, e1, e2, e3, e4⟩ := hag c
  refine (Cert.ReferenceIdeal.Value.final m' c).trans (Eq.trans ?_ (Cert.KernelIdeal.Value.G5_eq m c).symm)
  rw [← e0, ← e1, ← e2, ← e3, ← e4]

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ, trivial, algebraic⟩

end Cert.Proof

end
